-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_score_bias_finite [hPre_score_bias_finite : Cert.Pre_score_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_score_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_score_bias_finite [hPre_score_bias_finite : Cert.Pre_score_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_score_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_score_bias_finite [hKernelIdeal : Cert.KernelIdeal.Facts] [hPre_score_bias_finite : Cert.Pre_score_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_score_bias_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_score_bias_finite [hReferenceIdeal : Cert.ReferenceIdeal.Facts] [hPre_score_bias_finite : Cert.Pre_score_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_score_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_score_bias_finite [hKernelIdeal : Cert.KernelIdeal.Facts] [hReferenceIdeal : Cert.ReferenceIdeal.Facts] [hPre_score_bias_finite : Cert.Pre_score_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_score_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_score_bias_finite : Cert.Pre_score_bias_finite.Facts),
    quiescent_Kernel (hKernel := hKernel)
    ∧ quiescent_KernelIdeal (hKernelIdeal := hKernelIdeal)
    ∧ quiescent_KernelIdeal_pre_score_bias_finite (hKernelIdeal := hKernelIdeal) (hPre_score_bias_finite := hPre_score_bias_finite)
    ∧ quiescent_ReferenceIdeal (hReferenceIdeal := hReferenceIdeal)
    ∧ quiescent_ReferenceIdeal_pre_score_bias_finite (hReferenceIdeal := hReferenceIdeal) (hPre_score_bias_finite := hPre_score_bias_finite)
    ∧ preserves_Kernel_KernelIdeal
    ∧ algebraic_KernelIdeal_ReferenceIdeal_pre_score_bias_finite (hKernelIdeal := hKernelIdeal) (hReferenceIdeal := hReferenceIdeal) (hPre_score_bias_finite := hPre_score_bias_finite)
-- ==== Pre_score_bias_finite.lean ====
abbrev S4x512x256 : Shape := ⟨3, ![4, 512, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x512x256 .f32) (main_arg1 : FVec F S4x512x256 .f32) (main_arg2 : FVec F S4x512x256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S1x256 .f32) (main_arg10 : FVec F S1 .f32) (main_arg11 : FVec F S256x256 .f32) (main_arg12 : FVec F S256 .f32) : IVec S1 1 :=
  let main_cst : FVec F S_ .f32 := constant S_ .f32 0xFF800000#32
  let main_v0 : FVec F S1 .f32 := broadcastInDim S1 ![] bcast_S_S1 main_cst
  let main_v1 : IVec S1 1 := cmpf .ogt main_arg10 main_v0
  let main_cst_0 : FVec F S_ .f32 := constant S_ .f32 0x7F800000#32
  let main_v2 : FVec F S1 .f32 := broadcastInDim S1 ![] bcast_S_S1 main_cst_0
  let main_v3 : IVec S1 1 := cmpf .olt main_arg10 main_v2
  let main_v4 : IVec S1 1 := andi main_v1 main_v3
  main_v4
-- ==== Kernel.lean ====
abbrev S4x512x256 : Shape := ⟨3, ![4, 512, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S256x1 : Shape := ⟨2, ![256, 1]⟩
abbrev S8x8 : Shape := ⟨2, ![8, 8]⟩
abbrev S_ : Shape := ⟨0, ![]⟩
abbrev S8x1x8x1 : Shape := ⟨4, ![8, 1, 8, 1]⟩
abbrev S1x1x1x256 : Shape := ⟨4, ![1, 1, 1, 256]⟩
abbrev S8x1x8x256 : Shape := ⟨4, ![8, 1, 8, 256]⟩
abbrev S8x2048 : Shape := ⟨2, ![8, 2048]⟩
abbrev S4x1x512x512 : Shape := ⟨4, ![4, 1, 512, 512]⟩
abbrev S1x512x256 : Shape := ⟨3, ![1, 512, 256]⟩
abbrev S1x128x256 : Shape := ⟨3, ![1, 128, 256]⟩
abbrev S1x1x128x512 : Shape := ⟨4, ![1, 1, 128, 512]⟩
abbrev S4x256x128 : Shape := ⟨3, ![4, 256, 128]⟩
abbrev S256x512 : Shape := ⟨2, ![256, 512]⟩
abbrev S512x256 : Shape := ⟨2, ![512, 256]⟩
abbrev S128x512 : Shape := ⟨2, ![128, 512]⟩
abbrev S128x256 : Shape := ⟨2, ![128, 256]⟩
abbrev S256x128 : Shape := ⟨2, ![256, 128]⟩
abbrev S1x256x128 : Shape := ⟨3, ![1, 256, 128]⟩
abbrev S2048x512 : Shape := ⟨2, ![2048, 512]⟩
abbrev S8x512 : Shape := ⟨2, ![8, 512]⟩
abbrev S128 : Shape := ⟨1, ![128]⟩
abbrev S128x1 : Shape := ⟨2, ![128, 1]⟩

abbrev nBuf : Space → Nat
  | .hbm => 32
  | .vmem => 22
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256x1, .f32⟩
  | .hbm, ⟨15, _⟩ => ⟨S1x256, .f32⟩
  | .hbm, ⟨16, _⟩ => ⟨S1x256, .f32⟩
  | .hbm, ⟨17, _⟩ => ⟨S8x8, .i32⟩
  | .hbm, ⟨18, _⟩ => ⟨S8x8, .i32⟩
  | .hbm, ⟨19, _⟩ => ⟨S_, .i32⟩
  | .hbm, ⟨20, _⟩ => ⟨S8x8, .i32⟩
  | .hbm, ⟨21, _⟩ => ⟨S8x8, .i32⟩
  | .hbm, ⟨22, _⟩ => ⟨S8x8, .i1⟩
  | .hbm, ⟨23, _⟩ => ⟨S8x8, .f32⟩
  | .hbm, ⟨24, _⟩ => ⟨S8x1x8x1, .f32⟩
  | .hbm, ⟨25, _⟩ => ⟨S1x1x1x256, .f32⟩
  | .hbm, ⟨26, _⟩ => ⟨S8x1x8x256, .f32⟩
  | .hbm, ⟨27, _⟩ => ⟨S8x1x8x256, .f32⟩
  | .hbm, ⟨28, _⟩ => ⟨S8x1x8x256, .f32⟩
  | .hbm, ⟨29, _⟩ => ⟨S8x2048, .f32⟩
  | .hbm, ⟨30, _⟩ => ⟨S4x512x256, .f32⟩
  | .hbm, ⟨31, _⟩ => ⟨S4x1x512x512, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x1, .f32⟩
  | .local _ .vmem, ⟨11, _⟩ => ⟨S1x256, .f32⟩
  | .local _ .vmem, ⟨12, _⟩ => ⟨S1x256, .f32⟩
  | .local _ .vmem, ⟨13, _⟩ => ⟨S8x2048, .f32⟩
  | .local _ .vmem, ⟨14, _⟩ => ⟨S1x128x256, .f32⟩
  | .local _ .vmem, ⟨15, _⟩ => ⟨S1x128x256, .f32⟩
  | .local _ .vmem, ⟨16, _⟩ => ⟨S1x1x128x512, .f32⟩
  | .local _ .vmem, ⟨17, _⟩ => ⟨S1x1x128x512, .f32⟩
  | .local _ .vmem, ⟨18, _⟩ => ⟨S4x256x128, .bf16⟩
  | .local _ .vmem, ⟨19, _⟩ => ⟨S256x512, .bf16⟩
  | .local _ .vmem, ⟨20, _⟩ => ⟨S512x256, .f32⟩
  | .local _ .vmem, ⟨21, _⟩ => ⟨S128x512, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v6 : Index := Scalar.indexCast arg1
  let c0_2 : Index := 0#32
  let c0_3 : Index := 0#32
  ![v6.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S4x512x256 : Shape := ⟨3, ![4, 512, 256]⟩
abbrev S256x256 : Shape := ⟨2, ![256, 256]⟩
abbrev S256 : Shape := ⟨1, ![256]⟩
abbrev S1x256 : Shape := ⟨2, ![1, 256]⟩
abbrev S1 : Shape := ⟨1, ![1]⟩
abbrev S1x1x256 : Shape := ⟨3, ![1, 1, 256]⟩
abbrev S4x512x1x256 : Shape := ⟨4, ![4, 512, 1, 256]⟩
abbrev S4x1x512x256 : Shape := ⟨4, ![4, 1, 512, 256]⟩
abbrev S4x1x512x1x256 : Shape := ⟨5, ![4, 1, 512, 1, 256]⟩
abbrev S4x1x1x512x256 : Shape := ⟨5, ![4, 1, 1, 512, 256]⟩
abbrev S4x1x512x512x256 : Shape := ⟨5, ![4, 1, 512, 512, 256]⟩
abbrev S4x1x512x512x1 : Shape := ⟨5, ![4, 1, 512, 512, 1]⟩
abbrev S1x1x1x1x1 : Shape := ⟨5, ![1, 1, 1, 1, 1]⟩
abbrev S4x1x512x512 : Shape := ⟨4, ![4, 1, 512, 512]⟩
abbrev S_ : Shape := ⟨0, ![]⟩
abbrev S4x1x512 : Shape := ⟨3, ![4, 1, 512]⟩
abbrev S4x1x512x1 : Shape := ⟨4, ![4, 1, 512, 1]⟩
abbrev S4x1x256x512 : Shape := ⟨4, ![4, 1, 256, 512]⟩

abbrev nBuf : Space → Nat
  | .hbm => 67
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S4x512x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x256, .f32⟩
  | .hbm, ⟨10, _⟩ => ⟨S1, .f32⟩
  | .hbm, ⟨11, _⟩ => ⟨S256x256, .f32⟩
  | .hbm, ⟨12, _⟩ => ⟨S256, .f32⟩
  | .hbm, ⟨13, _⟩ => ⟨S256x256, .f32⟩
  | .hbm, ⟨14, _⟩ => ⟨S4x512x256, .f32⟩
  | .hbm, ⟨15, _⟩ => ⟨S1x1x256, .f32⟩
  | .hbm, ⟨16, _⟩ => ⟨S4x512x256, .f32⟩
  | .hbm, ⟨17, _⟩ => ⟨S4x512x256, .f32⟩
  | .hbm, ⟨18, _⟩ => ⟨S4x512x1x256, .f32⟩
  | .hbm, ⟨19, _⟩ => ⟨S4x1x512x256, .f32⟩
  | .hbm, ⟨20, _⟩ => ⟨S256x256, .f32⟩
  | .hbm, ⟨21, _⟩ => ⟨S4x512x256, .f32⟩
  | .hbm, ⟨22, _⟩ => ⟨S1x1x256, .f32⟩
  | .hbm, ⟨23, _⟩ => ⟨S4x512x256, .f32⟩
  | .hbm, ⟨24, _⟩ => ⟨S4x512x256, .f32⟩
  | .hbm, ⟨25, _⟩ => ⟨S4x512x1x256, .f32⟩
  | .hbm, ⟨26, _⟩ => ⟨S4x1x512x256, .f32⟩
  | .hbm, ⟨27, _⟩ => ⟨S256x256, .f32⟩
  | .hbm, ⟨28, _⟩ => ⟨S4x512x256, .f32⟩
  | .hbm, ⟨29, _⟩ => ⟨S1x1x256, .f32⟩
  | .hbm, ⟨30, _⟩ => ⟨S4x512x256, .f32⟩
  | .hbm, ⟨31, _⟩ => ⟨S4x512x256, .f32⟩
  | .hbm, ⟨32, _⟩ => ⟨S4x512x1x256, .f32⟩
  | .hbm, ⟨33, _⟩ => ⟨S4x1x512x256, .f32⟩
  | .hbm, ⟨34, _⟩ => ⟨S4x1x512x1x256, .f32⟩
  | .hbm, ⟨35, _⟩ => ⟨S4x1x1x512x256, .f32⟩
  | .hbm, ⟨36, _⟩ => ⟨S4x1x512x512x256, .f32⟩
  | .hbm, ⟨37, _⟩ => ⟨S4x1x512x512x256, .f32⟩
  | .hbm, ⟨38, _⟩ => ⟨S4x1x512x512x256, .f32⟩
  | .hbm, ⟨39, _⟩ => ⟨S4x1x512x512x256, .f32⟩
  | .hbm, ⟨40, _⟩ => ⟨S4x1x512x512x1, .f32⟩
  | .hbm, ⟨41, _⟩ => ⟨S1x1x1x1x1, .f32⟩
  | .hbm, ⟨42, _⟩ => ⟨S4x1x512x512x1, .f32⟩
  | .hbm, ⟨43, _⟩ => ⟨S4x1x512x512x1, .f32⟩
  | .hbm, ⟨44, _⟩ => ⟨S4x1x512x512, .f32⟩
  | .hbm, ⟨45, _⟩ => ⟨S_, .f32⟩
  | .hbm, ⟨46, _⟩ => ⟨S4x1x512, .f32⟩
  | .hbm, ⟨47, _⟩ => ⟨S_, .f32⟩
  | .hbm, ⟨48, _⟩ => ⟨S4x1x512, .f32⟩
  | .hbm, ⟨49, _⟩ => ⟨S4x1x512, .f32⟩
  | .hbm, ⟨50, _⟩ => ⟨S4x1x512x1, .f32⟩
  | .hbm, ⟨51, _⟩ => ⟨S4x1x512x512, .f32⟩
  | .hbm, ⟨52, _⟩ => ⟨S4x1x512x512, .f32⟩
  | .hbm, ⟨53, _⟩ => ⟨S4x1x512x512, .f32⟩
  | .hbm, ⟨54, _⟩ => ⟨S_, .f32⟩
  | .hbm, ⟨55, _⟩ => ⟨S4x1x512, .f32⟩
  | .hbm, ⟨56, _⟩ => ⟨S4x1x512x1, .f32⟩
  | .hbm, ⟨57, _⟩ => ⟨S4x1x512x512, .f32⟩
  | .hbm, ⟨58, _⟩ => ⟨S4x1x512x512, .f32⟩
  | .hbm, ⟨59, _⟩ => ⟨S4x1x256x512, .f32⟩
  | .hbm, ⟨60, _⟩ => ⟨S4x512x1x256, .f32⟩
  | .hbm, ⟨61, _⟩ => ⟨S4x512x256, .f32⟩
  | .hbm, ⟨62, _⟩ => ⟨S256x256, .f32⟩
  | .hbm, ⟨63, _⟩ => ⟨S4x512x256, .f32⟩
  | .hbm, ⟨64, _⟩ => ⟨S1x1x256, .f32⟩
  | .hbm, ⟨65, _⟩ => ⟨S4x512x256, .f32⟩
  | .hbm, ⟨66, _⟩ => ⟨S4x512x256, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_v32 : Ref sig .tc := ⟨.hbm, 46, rfl⟩
abbrev main_cst_0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Proof.Tile.lean ====
module

public import proofs.«01_k».proof.Proof.Gen.KernelIdeal.Skeleton
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.KernelIdeal.Rows

/-- Any single column of the 256 by 128 query tile is a slice of it. -/
theorem slices_col (n : ℕ) (hn : n < 128) : S256x128.Slices ![0, n] S256x1 := by
  refine ⟨rfl, fun a => ?_⟩
  match a with
  | ⟨0, _⟩ => show 0 + 256 ≤ 256; omega
  | ⟨1, _⟩ => show n + 1 ≤ 128; omega

/-- The hyperbolic tangent of query column `n` added to every key column. -/
def slab (q : FVec Ideal S256x128 .bf16) (k : FVec Ideal S256x512 .bf16) (n : ℕ) (hn : n < 128) : FVec Ideal S256x512 .bf16 :=
  tanh (addf (broadcastTo S256x512 (extractStridedSlice S256x1 ![0, n] q (slices_col n hn)) broadcasts_S256x1_S256x512) k)

/-- The slab read at an index. -/
theorem slab_at (q : FVec Ideal S256x128 .bf16) (k : FVec Ideal S256x512 .bf16) (n : ℕ) (hn : n < 128) (d : Fin 256) (l : Fin 512) :
    slab q k n hn (ix2 d l) = Ideal.tanh (q (ix2 d ⟨n, hn⟩) + k (ix2 d l)) := by
  pointwise [slab]

/-- Two slabs at equal columns agree at equal lanes. -/
theorem slab_congr (q : FVec Ideal S256x128 .bf16) (k : FVec Ideal S256x512 .bf16) {n n' : ℕ} {hn : n < 128} {hn' : n' < 128}
    {d d' : Fin 256} {l : Fin 512} (h : n = n') (hd : d = d') : slab q k n hn (ix2 d l) = slab q k n' hn' (ix2 d' l) := by
  subst h; subst hd; rfl

/-- Eight rows of scores: the weight rows applied to the eight slabs of queries `n`, …, `n + 7` laid under one another. -/
def tile (w : FVec Ideal S8x2048 .bf16) (q : FVec Ideal S256x128 .bf16) (k : FVec Ideal S256x512 .bf16) (n : ℕ) (hn : n + 7 < 128) :
    FVec Ideal S8x512 .f32 :=
  matmul dot_S8x2048_S2048x512_S8x512_1_0_0_1_n_n none w
    (concatenate S2048x512 0 [⟨S256x512, slab q k n (by omega)⟩, ⟨S256x512, slab q k (n + 1) (by omega)⟩,
      ⟨S256x512, slab q k (n + 2) (by omega)⟩, ⟨S256x512, slab q k (n + 3) (by omega)⟩, ⟨S256x512, slab q k (n + 4) (by omega)⟩,
      ⟨S256x512, slab q k (n + 5) (by omega)⟩, ⟨S256x512, slab q k (n + 6) (by omega)⟩, ⟨S256x512, slab q k (n + 7) (by omega)⟩]
      concatenates_S256x512_S256x512_S256x512_S256x512_S256x512_S256x512_S256x512_S256x512_S2048x512_d0)
    (constant S8x512 .f32 0x00000000#32)

/-- A sum over 2048 lanes is the sum over eight groups of 256. -/
theorem sum_groups (f : Fin 2048 → EReal) :
    ∑ x, f x = ∑ a : Fin 8, ∑ d : Fin 256, f ⟨a.val * 256 + d.val, by omega⟩ := by
  rw [← (finProdFinEquiv (m := 8) (n := 256)).sum_comp, Fintype.sum_prod_type]
  refine Finset.sum_congr rfl fun a _ => Finset.sum_congr rfl fun d _ => congrArg f (Fin.ext ?_)
  show d.val + 256 * a.val = a.val * 256 + d.val
  omega

/-- With weight rows that hold `ws` on their own group of lanes and zero elsewhere, row `r` of the tile is the score row of query `n + r`. -/
theorem tile_at (w : FVec Ideal S8x2048 .bf16) (q : FVec Ideal S256x128 .bf16) (k : FVec Ideal S256x512 .bf16) (n : ℕ) (hn : n + 7 < 128)
    (ws : Fin 256 → EReal)
    (hw : ∀ (r a : Fin 8) (d : Fin 256), w (ix2 r ⟨a.val * 256 + d.val, by omega⟩) = if a = r then ws d else 0)
    (r : Fin 8) (l : Fin 512) :
    tile w q k n hn (ix2 r l) = ∑ d : Fin 256, ws d * Ideal.tanh (q (ix2 d ⟨n + r.val, by omega⟩) + k (ix2 d l)) := by
  pointwise [tile]
  rw [sum_groups, Finset.sum_eq_single r]
  · refine Finset.sum_congr rfl fun d _ => ?_
    rw [hw, if_pos rfl, ← slab_at]
    congr 1
    have hd := d.isLt
    have hr := r.isLt
    dsimp only
    split_ifs <;> exact slab_congr q k (by omega) (by simp only [Fin.ext_iff]; omega)
  · intro a _ ha
    refine Finset.sum_eq_zero fun d _ => ?_
    rw [hw, if_neg ha, zero_mul]
  · exact fun h => absurd (Finset.mem_univ r) h

end Cert.KernelIdeal.Rows
end
-- ==== Proof.Scores.lean ====
module

public import proofs.«01_k».proof.Proof.Tile
public import proofs.«01_k».proof.Proof.Gen.KernelIdeal.Frame
public import Idealize.ShloMosaic.Lib.Pipeline.ValueKit
public import Idealize.ShloMosaic.Lib.Pipeline.ReadBack

/-! The 128 by 512 score block: sixteen stored bands of eight rows, read back as one array. -/

@[expose] public section
set_option maxRecDepth 16384
noncomputable section
open Idealize.ShloMosaic Idealize.ShloMosaic.TcCoe Idealize.SL.Sem
open Cert.KernelIdeal Cert.KernelIdeal.Gen
namespace Cert.KernelIdeal.Rows

/-- The score block as one array: row `i` is row `i % 8` of the tile that starts at query `i / 8 * 8`. -/
def scores (w : FVec Ideal S8x2048 .bf16) (q : FVec Ideal S256x128 .bf16) (k : FVec Ideal S256x512 .bf16) : FVec Ideal S128x512 .f32 :=
  fun y => tile w q k ((y 0).val / 8 * 8) (by have h : (y 0).val < 128 := (y 0).isLt; omega)
    (ix2 ⟨(y 0).val % 8, Nat.mod_lt _ (by omega)⟩ (y 1))

/-- Band `g` of the score block: eight rows from row `g * 8`, holding their tile. -/
def band (w : FVec Ideal S8x2048 .bf16) (q : FVec Ideal S256x128 .bf16) (k : FVec Ideal S256x512 .bf16) (g : Fin 16) :
    View.Piece (Elt Ideal) S128x512 .f32 :=
  ⟨Rect.unit ![g.val * 8, 0] ![8, 512] (fun a => match a with
      | ⟨0, _⟩ => by show g.val * 8 + 8 ≤ 128; omega
      | ⟨1, _⟩ => by show 0 + 512 ≤ 512; omega),
    shapeCast S8x512 (tile w q k (g.val * 8) (by omega)) shapeCasts_S8x512_S8x512⟩

/-- Two tiles at equal first queries agree at equal rows and columns. -/
theorem tile_congr (w : FVec Ideal S8x2048 .bf16) (q : FVec Ideal S256x128 .bf16) (k : FVec Ideal S256x512 .bf16) {n n' : ℕ}
    {hn : n + 7 < 128} {hn' : n' + 7 < 128} {x x' : S8x512.Idx} (h : n = n') (h0 : (x 0).val = (x' 0).val)
    (h1 : (x 1).val = (x' 1).val) : tile w q k n hn x = tile w q k n' hn' x' := by
  subst h
  congr 1
  funext a
  match a with
  | ⟨0, _⟩ => exact Fin.ext h0
  | ⟨1, _⟩ => exact Fin.ext h1

/-- Each band is a block of the score array. -/
theorem band_ok (w : FVec Ideal S8x2048 .bf16) (q : FVec Ideal S256x128 .bf16) (k : FVec Ideal S256x512 .bf16) (g : Fin 16)
    (x : (band w q k g).1.shape.Idx) : (band w q k g).2 x = scores w q k ((band w q k g).1.emb x) := by
  have e0 : (((band w q k g).1.emb x) 0).val = g.val * 8 + (x 0).val := by
    show g.val * 8 + 1 * (x 0).val = _; omega
  have e1 : (((band w q k g).1.emb x) 1).val = 0 + (x 1).val := by
    show 0 + 1 * (x 1).val = _; omega
  have hx : (x 0).val < 8 := (x 0).isLt
  refine Eq.trans (b := tile w q k (g.val * 8) (by omega) x) ?_ ?_
  · show shapeCast S8x512 (tile w q k (g.val * 8) _) shapeCasts_S8x512_S8x512 x = _
    pointwise
  · refine tile_congr w q k ?_ ?_ ?_
    · rw [e0]; omega
    · show (x 0).val = (((band w q k g).1.emb x) 0).val % 8
      rw [e0]; omega
    · show (x 1).val = (((band w q k g).1.emb x) 1).val
      rw [e1]; omega

/-- Every index of the score block lies in a band. -/
theorem band_cover (w : FVec Ideal S8x2048 .bf16) (q : FVec Ideal S256x128 .bf16) (k : FVec Ideal S256x512 .bf16) (y : S128x512.Idx) :
    ∃ p ∈ List.map (band w q k) [15, 14, 13, 12, 11, 10, 9, 8, 7, 6, 5, 4, 3, 2, 1, 0], y ∈ p.1.set := by
  have h0 : (y 0).val < 128 := (y 0).isLt
  refine ⟨band w q k ⟨(y 0).val / 8, by omega⟩,
    List.mem_map_of_mem ((by decide : ∀ g : Fin 16, g ∈ ([15, 14, 13, 12, 11, 10, 9, 8, 7, 6, 5, 4, 3, 2, 1, 0] : List (Fin 16))) _), ?_⟩
  refine (LoadRect.mem_set _).mpr fun a => ?_
  match a with
  | ⟨0, _⟩ =>
    refine ⟨(y 0).val % 8, Nat.mod_lt _ (by omega), ?_⟩
    show (y 0).val = (y 0).val / 8 * 8 + 1 * ((y 0).val % 8)
    omega
  | ⟨1, _⟩ =>
    refine ⟨(y 1).val, (y 1).isLt, ?_⟩
    show (y 1).val = 0 + 1 * (y 1).val
    omega

/-- The sixteen bands read back are the score array. -/
theorem read_scores {sp : Space} (v : View sig .tc sp S128x512 .f32) (w : FVec Ideal S8x2048 .bf16) (q : FVec Ideal S256x128 .bf16)
    (k : FVec Ideal S256x512 .bf16) :
    v.readCov (List.map (band w q k) [15, 14, 13, 12, 11, 10, 9, 8, 7, 6, 5, 4, 3, 2, 1, 0])
      (Rect.unit ![0, 0] ![128, 512] inb_S128x512_S128x512_0_0).toLoadRect = scores w q k := by
  rw [View.readCov_eq_canon']
  funext j
  rw [← List.append_nil (List.map _ _)]
  refine (View.canon_append_of_pieces (scores w q k) [] _ ?_ _ (band_cover w q k _)).trans ?_
  · intro p hp x
    obtain ⟨g, _, rfl⟩ := List.mem_map.mp hp
    exact band_ok w q k g x
  · refine congrArg (scores w q k) (funext fun a => Fin.ext ?_)
    match a with
    | ⟨0, _⟩ => show 0 + 1 * (j 0).val = (j 0).val; omega
    | ⟨1, _⟩ => show 0 + 1 * (j 1).val = (j 1).val; omega

/-- Row `i` of the score block, at weight rows that hold `ws` on their own group of lanes and zero elsewhere. -/
theorem scores_at (w : FVec Ideal S8x2048 .bf16) (q : FVec Ideal S256x128 .bf16) (k : FVec Ideal S256x512 .bf16)
    (ws : Fin 256 → EReal)
    (hw : ∀ (r a : Fin 8) (d : Fin 256), w (ix2 r ⟨a.val * 256 + d.val, by omega⟩) = if a = r then ws d else 0)
    (i : Fin 128) (l : Fin 512) :
    scores w q k (ix2 i l) = ∑ d : Fin 256, ws d * Ideal.tanh (q (ix2 d i) + k (ix2 d l)) := by
  refine (tile_at w q k (i.val / 8 * 8) (by omega) ws hw ⟨i.val % 8, Nat.mod_lt _ (by omega)⟩ l).trans ?_
  refine Finset.sum_congr rfl fun d _ => ?_
  rw [show (⟨i.val / 8 * 8 + i.val % 8, by omega⟩ : Fin 128) = i from Fin.ext (by show i.val / 8 * 8 + i.val % 8 = i.val; omega)]

end Cert.KernelIdeal.Rows
end
-- ==== Proof.Body.lean ====
module

public import proofs.«01_k».proof.Proof.Scores

/-! What one grid point leaves in its two result blocks, from its input blocks and the three projected arrays it holds. -/

@[expose] public section
set_option maxRecDepth 16384
noncomputable section
open Idealize.ShloMosaic Idealize.ShloMosaic.TcCoe Idealize.SL.Sem
open Cert.KernelIdeal Cert.KernelIdeal.Gen
namespace Cert.KernelIdeal.Rows
variable (m : (ℓ : Loc nD τ sig) → Buf (Elt Ideal) ℓ)

/-- The load of one projected query tile: the 256 by 128 slice of the held array that the point's second coordinate names. -/
abbrev queries (Q : Vec Ideal S4x256x128 .bf16) (i : grid0.Coords) : FVec Ideal S256x128 .bf16 :=
  k0_pay9 (F := Ideal) (View.ld (Val := Elt Ideal) (S := S4x256x128) Q (Rect.unit (k0_off1 i) ![1, 256, 128] (k0_off1_inb i)))

/-- The score block of a point: the weight rows of its block against the query tile and the keys it holds. -/
abbrev scoresAt (c : Dev nD) (t : Fin cfg0.N) : FVec Ideal S128x512 .f32 :=
  scores (k0_pay8 (F := Ideal) (iblk m c 10 t)) (queries (outsAt0 m c t.val t.isLt).2.2.1 (grid0.coords t))
    (outsAt0 m c t.val t.isLt).2.2.2.1

/-- The attention block a point leaves is the softmax of its score block. -/
theorem attn_point (c : Dev nD) (t : Fin cfg0.N) :
    (outsAt0 m c t.val t.isLt).2.1 = k0_pay67 (F := Ideal) (scoresAt m c t) := by
  unfold scoresAt
  by_cases h : t.val % 4 = 0
  · rw [outsAt0_A m c t h]
    dsimp only
    frame_out
    exact congrArg (k0_pay67 (F := Ideal)) (read_scores _ _ _ _)
  · rw [outsAt0_B m c t h]
    dsimp only [sout0_B_0, sout0_B_1, sout0_B_2]
    frame_out
    simp only [read_unread_whole]
    exact congrArg (k0_pay67 (F := Ideal)) (read_scores _ _ _ _)

/-- The output block a point leaves is the softmax of its score block against the values it holds, projected and shifted. -/
theorem out_point (c : Dev nD) (t : Fin cfg0.N) :
    (outsAt0 m c t.val t.isLt).1 = k0_pay1 (F := Ideal) (k0_pay68 (F := Ideal) (scoresAt m c t)
      (outsAt0 m c t.val t.isLt).2.2.2.2 (iblk m c 6 t) (iblk m c 9 t)) := by
  unfold scoresAt
  by_cases h : t.val % 4 = 0
  · rw [outsAt0_A m c t h]
    dsimp only
    frame_out
    exact congrArg (fun s => k0_pay1 (F := Ideal) (k0_pay68 (F := Ideal) s _ _ _)) (read_scores _ _ _ _)
  · rw [outsAt0_B m c t h]
    dsimp only [sout0_B_0, sout0_B_1, sout0_B_2]
    frame_out
    simp only [read_unread_whole]
    exact congrArg (fun s => k0_pay1 (F := Ideal) (k0_pay68 (F := Ideal) s _ _ _)) (read_scores _ _ _ _)

/-- A point that is not the first of its batch keeps the three projected arrays of the point before. -/
theorem held_point (c : Dev nD) (t : Fin cfg0.N) (h : ¬ t.val % 4 = 0) :
    (outsAt0 m c t.val t.isLt).2.2 = (outsAt0 m c (t.val - 1) (Nat.lt_of_le_of_lt (Nat.sub_le _ _) t.isLt)).2.2 := by
  rw [outsAt0_B m c t h]
  rfl

/-- The first point of a batch stores the projected keys. -/
theorem keys_point (c : Dev nD) (t : Fin cfg0.N) (h : t.val % 4 = 0) :
    (outsAt0 m c t.val t.isLt).2.2.2.1 = k0_pay6 (F := Ideal) (iblk m c 4 t) (iblk m c 1 t) (iblk m c 7 t) := by
  rw [outsAt0_A m c t h]
  dsimp only
  frame_out

/-- The first point of a batch stores the projected values. -/
theorem values_point (c : Dev nD) (t : Fin cfg0.N) (h : t.val % 4 = 0) :
    (outsAt0 m c t.val t.isLt).2.2.2.2 = k0_pay7 (F := Ideal) (iblk m c 2 t) (iblk m c 5 t) (iblk m c 8 t) := by
  rw [outsAt0_A m c t h]
  dsimp only
  frame_out

/-- A projected query tile, read at an index: tile `n` is taken from the query rows from `n * 128`. -/
theorem query_tile (W : FVec Ideal S256x256 .f32) (x : FVec Ideal S1x512x256 .f32) (n : Fin 4) (off : ℕ) (hoff : off = n.val * 128)
    (inb : ∀ a, (![0, off, 0] : Fin 3 → ℕ) a + (![1, 128, 256] : Fin 3 → ℕ) a ≤ S1x512x256.size a) (y : S1x256x128.Idx)
    (d : Fin 256) (i : Fin 128) (hd : d.val = (y 1).val) (hi : i.val = (y 2).val) :
    k0_pay2 (F := Ideal) W (View.ld (Val := Elt Ideal) (S := S1x512x256) x (Rect.unit ![0, off, 0] ![1, 128, 256] inb)) y
      = ∑ e : Fin 256, W (ix2 d e) * x (ix3 0 ⟨n.val * 128 + i.val, by omega⟩ e) := by
  subst hoff
  obtain ⟨y0, y1, y2, rfl⟩ : ∃ (a : Fin 1) (b : Fin 256) (e : Fin 128), y = ix3 a b e := ⟨y 0, y 1, y 2, eq_ix3 y⟩
  obtain rfl : d = y1 := Fin.ext hd
  obtain rfl : i = y2 := Fin.ext hi
  pointwise [k0_pay2]

/-- The first point of a batch stores the projected queries, tile by tile. -/
theorem queries_point (c : Dev nD) (t : Fin cfg0.N) (h : t.val % 4 = 0) (n : Fin 4) (d : Fin 256) (i : Fin 128) :
    (outsAt0 m c t.val t.isLt).2.2.1 (ix3 n d i)
      = ∑ e : Fin 256, (show FVec Ideal S256x256 .f32 from iblk m c 3 t) (ix2 d e)
          * (show FVec Ideal S1x512x256 .f32 from iblk m c 0 t) (ix3 0 ⟨n.val * 128 + i.val, by omega⟩ e) := by
  rw [outsAt0_A m c t h]
  dsimp only
  frame_out
  canon_tiles x h <;>
  exact query_tile (iblk m c 3 t) (iblk m c 0 t) n _ (by simp only [ix3_0] at h0; omega) _ x d i h1 h2
end Cert.KernelIdeal.Rows
end
-- ==== Proof.Softmax.lean ====
module

public import Idealize.ShloMosaic.Lib.Pointwise

/-! The softmax of one row of extended reals, and that adding one finite number to the whole row does not change it. -/

@[expose] public section
noncomputable section
open Idealize.ShloMosaic
namespace Cert.Rows

/-- The greatest entry of a row, starting from the least extended real. -/
def top (s : Fin 512 → EReal) : EReal := Finset.univ.fold max ⊥ s

/-- The softmax of a row: each exponential of the distance to the greatest entry, over the sum of them all. -/
def soft (s : Fin 512 → EReal) (k : Fin 512) : EReal :=
  Ideal.div (Ideal.exp (s k - top s)) (∑ l, Ideal.exp (s l - top s))

/-- A finite number added to both sides of a difference drops out, whatever the two sides are. -/
theorem add_sub_add (x y : EReal) (r : ℝ) : (x + r) - (y + r) = x - y := by
  induction x with
  | bot => rw [EReal.bot_add]; simp only [EReal.bot_sub]
  | top =>
    rw [EReal.top_add_coe]
    induction y with
    | bot => rw [EReal.bot_add]
    | top => rw [EReal.top_add_coe]
    | coe b => rw [← EReal.coe_add, EReal.top_sub_coe, EReal.top_sub_coe]
  | coe a =>
    induction y with
    | bot => rw [EReal.bot_add, ← EReal.coe_add, EReal.coe_sub_bot, EReal.coe_sub_bot]
    | top => rw [EReal.top_add_coe, EReal.sub_top, EReal.sub_top]
    | coe b => rw [← EReal.coe_add, ← EReal.coe_add, ← EReal.coe_sub, ← EReal.coe_sub, add_sub_add_right_eq_sub]

/-- A number added to every entry is added to the greatest entry. -/
theorem top_add (s : Fin 512 → EReal) (r : ℝ) : top (fun l => s l + r) = top s + r := by
  unfold top
  induction (Finset.univ : Finset (Fin 512)) using Finset.cons_induction with
  | empty => simp
  | cons a t ha ih => rw [Finset.fold_cons, Finset.fold_cons, ih, max_add_add_right]

/-- The softmax of a row does not change when one finite number is added to every entry. -/
theorem soft_add (s : Fin 512 → EReal) (r : ℝ) (k : Fin 512) : soft (fun l => s l + r) k = soft s k := by
  unfold soft
  simp only [top_add, add_sub_add]

/-- The bit pattern from which a maximum starts is the least extended real. -/
theorem ofBits_least : Ideal.ofBits FTy.f32 0xFF800000#32 = ⊥ := by
  simp [Ideal.ofBits, Ideal.ieee]

/-- The bit pattern of positive infinity is the greatest extended real. -/
theorem ofBits_greatest : Ideal.ofBits FTy.f32 0x7F800000#32 = ⊤ := by
  simp [Ideal.ofBits, Ideal.ieee]

end Cert.Rows
end
-- ==== Proof.Spec.lean ====
module

public import proofs.«01_k».proof.Proof.Softmax

/-! Additive attention with one head, as mathematics over the extended reals. -/

@[expose] public section
noncomputable section
open Idealize.ShloMosaic
namespace Cert.Rows

/-- The thirteen arguments, as functions of their coordinates. -/
structure Args where
  query : Fin 4 → Fin 512 → Fin 256 → EReal
  key : Fin 4 → Fin 512 → Fin 256 → EReal
  value : Fin 4 → Fin 512 → Fin 256 → EReal
  Wq : Fin 256 → Fin 256 → EReal
  bq : Fin 256 → EReal
  Wk : Fin 256 → Fin 256 → EReal
  bk : Fin 256 → EReal
  Wv : Fin 256 → Fin 256 → EReal
  bv : Fin 256 → EReal
  Ws : Fin 256 → EReal
  bs : EReal
  Wo : Fin 256 → Fin 256 → EReal
  bo : Fin 256 → EReal

namespace Args
variable (A : Args)

/-- Coordinate `d` of the projected query `i`, without its bias. -/
def q (b : Fin 4) (i : Fin 512) (d : Fin 256) : EReal := ∑ e, A.query b i e * A.Wq d e

/-- Coordinate `d` of the projected key `l`, without its bias. -/
def k (b : Fin 4) (l : Fin 512) (d : Fin 256) : EReal := ∑ e, A.key b l e * A.Wk d e

/-- Coordinate `d` of the projected value `l`, with its bias. -/
def v (b : Fin 4) (l : Fin 512) (d : Fin 256) : EReal := (∑ e, A.value b l e * A.Wv d e) + A.bv d

/-- The score of query `i` against key `l`, without the score bias. -/
def score (b : Fin 4) (i l : Fin 512) : EReal := ∑ d, Ideal.tanh ((A.q b i d + A.bq d) + (A.k b l d + A.bk d)) * A.Ws d

/-- The attention of query `i` to key `l`. -/
def attn (b : Fin 4) (i l : Fin 512) : EReal := soft (A.score b i) l

/-- Coordinate `x` of the output at query `i`. -/
def out (b : Fin 4) (i : Fin 512) (x : Fin 256) : EReal :=
  (∑ y, (∑ l, A.attn b i l * A.v b l y) * A.Wo x y) + A.bo x

/-- A score with both projections' biases on the key side and the weight in front is the same score. -/
theorem score_eq (b : Fin 4) (i l : Fin 512) :
    ∑ d, A.Ws d * Ideal.tanh (A.q b i d + (A.k b l d + (A.bq d + A.bk d))) = A.score b i l := by
  unfold score
  refine Finset.sum_congr rfl fun d _ => ?_
  rw [mul_comm, add_add_add_comm, add_assoc]

end Args
end Cert.Rows
end
-- ==== Proof.Blocks.lean ====
module

public import proofs.«01_k».proof.Proof.Spec
public import proofs.«01_k».proof.Proof.Gen.KernelIdeal.Frame
public import Idealize.ShloMosaic.Lib.Pipeline.ValueKit

/-! The input blocks of a grid point, read back to the arguments. -/

@[expose] public section
set_option maxRecDepth 16384
noncomputable section
open Idealize.ShloMosaic Idealize.ShloMosaic.TcCoe Idealize.SL.Sem
open Cert.KernelIdeal Cert.KernelIdeal.Gen Cert.Rows
namespace Cert.KernelIdeal.Rows
variable (m : (ℓ : Loc nD τ sig) → Buf (Elt Ideal) ℓ)

/-- The kernel's arguments on one device. -/
def args (c : Dev nD) : Args where
  query b i e := m ((c : Thread nD τ).loc main_arg0) (ix3 b i e)
  key b i e := m ((c : Thread nD τ).loc main_arg1) (ix3 b i e)
  value b i e := m ((c : Thread nD τ).loc main_arg2) (ix3 b i e)
  Wq d e := m ((c : Thread nD τ).loc main_arg3) (ix2 d e)
  bq d := m ((c : Thread nD τ).loc main_arg4) (ix1 d)
  Wk d e := m ((c : Thread nD τ).loc main_arg5) (ix2 d e)
  bk d := m ((c : Thread nD τ).loc main_arg6) (ix1 d)
  Wv d e := m ((c : Thread nD τ).loc main_arg7) (ix2 d e)
  bv d := m ((c : Thread nD τ).loc main_arg8) (ix1 d)
  Ws d := m ((c : Thread nD τ).loc main_arg9) (ix2 0 d)
  bs := m ((c : Thread nD τ).loc main_arg10) (ix1 0)
  Wo d e := m ((c : Thread nD τ).loc main_arg11) (ix2 d e)
  bo d := m ((c : Thread nD τ).loc main_arg12) (ix1 d)

/-- The batch of a grid point. -/
def batch (t : Fin cfg0.N) : Fin 4 := ⟨t.val / 4, by have h : t.val < 16 := t.isLt; omega⟩

/-- Where each input window stands at a grid point: the three batched operands at the point's batch, the others at the origin. -/
theorem places : ∀ t : Fin cfg0.N, win0_0.index t = ![t.val / 4, 0, 0] ∧ win0_1.index t = ![t.val / 4, 0, 0]
    ∧ win0_2.index t = ![t.val / 4, 0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] :=
  (by decide +kernel : ∀ t : Fin grid0.N, _)

/-- The query block is the batch's queries. -/
theorem query_block (c : Dev nD) (t : Fin cfg0.N) (i : Fin 512) (e : Fin 256) :
    iblk m c 0 t (ix3 0 i e) = (args m c).query (batch t) i e := by
  unfold args batch
  blk_ext [iblk, V, places t]

/-- The key block is the batch's keys. -/
theorem key_block (c : Dev nD) (t : Fin cfg0.N) (i : Fin 512) (e : Fin 256) :
    iblk m c 1 t (ix3 0 i e) = (args m c).key (batch t) i e := by
  unfold args batch
  blk_ext [iblk, V, places t]

/-- The value block is the batch's values. -/
theorem value_block (c : Dev nD) (t : Fin cfg0.N) (i : Fin 512) (e : Fin 256) :
    iblk m c 2 t (ix3 0 i e) = (args m c).value (batch t) i e := by
  unfold args batch
  blk_ext [iblk, V, places t]

/-- The query weights, whole. -/
theorem Wq_block (c : Dev nD) (t : Fin cfg0.N) (d e : Fin 256) : iblk m c 3 t (ix2 d e) = (args m c).Wq d e := by
  unfold args
  blk_ext [iblk, V, places t]

/-- The key weights, whole. -/
theorem Wk_block (c : Dev nD) (t : Fin cfg0.N) (d e : Fin 256) : iblk m c 4 t (ix2 d e) = (args m c).Wk d e := by
  unfold args
  blk_ext [iblk, V, places t]

/-- The value weights, whole. -/
theorem Wv_block (c : Dev nD) (t : Fin cfg0.N) (d e : Fin 256) : iblk m c 5 t (ix2 d e) = (args m c).Wv d e := by
  unfold args
  blk_ext [iblk, V, places t]

/-- The output weights, whole. -/
theorem Wo_block (c : Dev nD) (t : Fin cfg0.N) (d e : Fin 256) : iblk m c 6 t (ix2 d e) = (args m c).Wo d e := by
  unfold args
  blk_ext [iblk, V, places t]

/-- The bias column holds the sum of the query bias and the key bias. -/
theorem bias_block (c : Dev nD) (t : Fin cfg0.N) (d : Fin 256) : iblk m c 7 t (ix2 d 0) = (args m c).bq d + (args m c).bk d := by
  unfold args
  refine Eq.trans (b := V m c main_v1 (ix2 d 0)) ?_ ?_
  · blk_ext [iblk, places t]
  · simp only [V, hostOps0, hostOps0_1, List.flatten_cons, List.flatten_nil, List.append_nil, List.cons_append, List.nil_append]
    entry_read
    pointwise

/-- The value bias, as a row. -/
theorem bv_block (c : Dev nD) (t : Fin cfg0.N) (d : Fin 256) : iblk m c 8 t (ix2 0 d) = (args m c).bv d := by
  unfold args
  refine Eq.trans (b := V m c main_v2 (ix2 0 d)) ?_ ?_
  · blk_ext [iblk, places t]
  · simp only [V, hostOps0, hostOps0_1, List.flatten_cons, List.flatten_nil, List.append_nil, List.cons_append, List.nil_append]
    entry_read
    pointwise

/-- The output bias, as a row. -/
theorem bo_block (c : Dev nD) (t : Fin cfg0.N) (d : Fin 256) : iblk m c 9 t (ix2 0 d) = (args m c).bo d := by
  unfold args
  refine Eq.trans (b := V m c main_v3 (ix2 0 d)) ?_ ?_
  · blk_ext [iblk, places t]
  · simp only [V, hostOps0, hostOps0_1, List.flatten_cons, List.flatten_nil, List.append_nil, List.cons_append, List.nil_append]
    entry_read
    pointwise

/-- The weight rows: row `r` holds the score weights on lane group `r` and zero on the other groups. -/
theorem weight_block (c : Dev nD) (t : Fin cfg0.N) (r a : Fin 8) (d : Fin 256) :
    iblk m c 10 t (ix2 r ⟨a.val * 256 + d.val, by omega⟩) = if a = r then (args m c).Ws d else 0 := by
  unfold args
  refine Eq.trans (b := V m c main_v10 (ix2 r ⟨a.val * 256 + d.val, by omega⟩)) ?_ ?_
  · blk_ext [iblk, places t]
  · simp only [V, hostOps0, hostOps0_1, List.flatten_cons, List.flatten_nil, List.append_nil, List.cons_append, List.nil_append]
    entry_read
    pointwise
    show mulf (F := Ideal) (broadcastInDim S8x1x8x256 ![0, 1, 2, 3] bcast_S8x1x8x1_S8x1x8x256_0_1_2_3
        (broadcastInDim S8x1x8x1 ![0, 2] bcast_S8x8_S8x1x8x1_0_2 (uitofp (F := Ideal) .f32 (cmpi .eq
          (addi (iotaInDim S8x8 32 0) (broadcastInDim S8x8 ![] bcast_S_S8x8 (constantI S_ 32 0#32))) (iotaInDim S8x8 32 1)))))
      (broadcastInDim S8x1x8x256 ![0, 1, 2, 3] bcast_S1x1x1x256_S8x1x8x256_0_1_2_3
        (broadcastInDim S1x1x1x256 ![1, 3] bcast_S1x256_S1x1x1x256_1_3 (m ((c : Thread nD τ).loc main_arg9)))) (ix4 r 0 a d) = _
    pointwise
    rw [(by decide : ∀ r a : Fin 8, IntOp.cmpi .eq (IntOp.addi (BitVec.ofNat 32 r.val) 0#32) (BitVec.ofNat 32 a.val)
      = if a = r then 1#1 else 0#1) r a]
    split_ifs
    · rw [show FloatOps.uitofp (F := Ideal) FTy.f32 1#1 = (1 : EReal) by simp [FloatOps.uitofp], one_mul]
    · rw [show FloatOps.uitofp (F := Ideal) FTy.f32 0#1 = (0 : EReal) by simp [FloatOps.uitofp], zero_mul]
end Cert.KernelIdeal.Rows
end
-- ==== Proof.Held.lean ====
module

public import proofs.«01_k».proof.Proof.Body
public import proofs.«01_k».proof.Proof.Blocks

/-! The three projected arrays a grid point holds: queries, keys and values of its batch. -/

@[expose] public section
set_option maxRecDepth 16384
noncomputable section
open Idealize.ShloMosaic Idealize.ShloMosaic.TcCoe Idealize.SL.Sem
open Cert.KernelIdeal Cert.KernelIdeal.Gen Cert.Rows
namespace Cert.KernelIdeal.Rows
variable (m : (ℓ : Loc nD τ sig) → Buf (Elt Ideal) ℓ)

/-- The key projection with a bias column, at an index. -/
theorem key_proj (W : FVec Ideal S256x256 .f32) (x : FVec Ideal S1x512x256 .f32) (s : FVec Ideal S256x1 .f32) (d : Fin 256) (l : Fin 512) :
    k0_pay6 (F := Ideal) W x s (ix2 d l) = (∑ e : Fin 256, W (ix2 d e) * x (ix3 0 l e)) + s (ix2 d 0) := by
  pointwise [k0_pay6]

/-- The value projection with a bias row, at an index. -/
theorem value_proj (x : FVec Ideal S1x512x256 .f32) (W : FVec Ideal S256x256 .f32) (s : FVec Ideal S1x256 .f32) (l : Fin 512) (d : Fin 256) :
    k0_pay7 (F := Ideal) x W s (ix2 l d) = (∑ e : Fin 256, x (ix3 0 l e) * W (ix2 d e)) + s (ix2 0 d) := by
  pointwise [k0_pay7]

/-- A product of two factors with known values, the other way round. -/
theorem mul_swap {a b x y : EReal} (ha : a = x) (hb : b = y) : a * b = y * x := by rw [ha, hb, mul_comm]

/-- What the three held arrays are for batch `b`: the projected queries in four tiles, transposed; the projected keys, transposed,
with both biases; the projected values. -/
structure Holds (A : Args) (b : Fin 4)
    (s : Vec Ideal S4x256x128 .bf16 × Vec Ideal S256x512 .bf16 × Vec Ideal S512x256 .bf16) : Prop where
  queries : ∀ (n : Fin 4) (d : Fin 256) (i : Fin 128), s.1 (ix3 n d i) = A.q b ⟨n.val * 128 + i.val, by omega⟩ d
  keys : ∀ (d : Fin 256) (l : Fin 512), s.2.1 (ix2 d l) = A.k b l d + (A.bq d + A.bk d)
  values : ∀ (l : Fin 512) (x : Fin 256), s.2.2 (ix2 l x) = A.v b l x

/-- The first point of a batch stores that batch's projections. -/
theorem holds_first (c : Dev nD) (t : Fin cfg0.N) (h : t.val % 4 = 0) : Holds (args m c) (batch t) (outsAt0 m c t.val t.isLt).2.2 := by
  refine ⟨fun n d i => ?_, fun d l => ?_, fun l x => ?_⟩
  · rw [queries_point m c t h]
    exact Finset.sum_congr rfl fun e _ => mul_swap (Wq_block m c t d e) (query_block m c t _ e)
  · rw [keys_point m c t h]
    refine (key_proj _ _ _ d l).trans (congrArg₂ (· + ·) (Finset.sum_congr rfl fun e _ => ?_) (bias_block m c t d))
    exact mul_swap (Wk_block m c t d e) (key_block m c t l e)
  · rw [values_point m c t h]
    refine (value_proj _ _ _ l x).trans (congrArg₂ (· + ·) (Finset.sum_congr rfl fun e _ => ?_) (bv_block m c t x))
    exact congrArg₂ (· * ·) (value_block m c t l e) (Wv_block m c t x e)

/-- Every point holds the projections of its batch: the first point stores them and the next three keep them. -/
theorem holds (c : Dev nD) : ∀ (n : ℕ) (t : Fin cfg0.N), t.val = n → Holds (args m c) (batch t) (outsAt0 m c t.val t.isLt).2.2 := by
  intro n
  induction n with
  | zero => exact fun t ht => holds_first m c t (by omega)
  | succ n ih =>
    intro t ht
    by_cases h : t.val % 4 = 0
    · exact holds_first m c t h
    · rw [held_point m c t h, show batch t = batch ⟨t.val - 1, Nat.lt_of_le_of_lt (Nat.sub_le _ _) t.isLt⟩ from
        Fin.ext (show t.val / 4 = (t.val - 1) / 4 by omega)]
      exact ih ⟨t.val - 1, Nat.lt_of_le_of_lt (Nat.sub_le _ _) t.isLt⟩ (show t.val - 1 = n by omega)

end Cert.KernelIdeal.Rows
end
-- ==== Proof.KernelValue.lean ====
module

public import proofs.«01_k».proof.Proof.Held
public import proofs.«01_k».proof.Proof.Gen.KernelIdeal.Value

/-! What the kernel's two results hold after the run. -/

@[expose] public section
set_option maxRecDepth 16384
noncomputable section
open Idealize.ShloMosaic Idealize.ShloMosaic.TcCoe Idealize.SL.Sem
open Cert.KernelIdeal Cert.KernelIdeal.Gen Cert.Rows
namespace Cert.KernelIdeal.Rows
variable (m : (ℓ : Loc nD τ sig) → Buf (Elt Ideal) ℓ)

/-- The row of the whole array that row `i` of a point's block is. -/
def row (t : Fin cfg0.N) (i : Fin 128) : Fin 512 := ⟨t.val % 4 * 128 + i.val, by omega⟩

/-- A point loads the query tile of its block. -/
theorem load_place : ∀ t : Fin cfg0.N, k0_off1 (grid0.coords t) = ![t.val % 4, 0, 0] :=
  (by decide +kernel : ∀ t : Fin grid0.N, _)

/-- Two indices of three coordinates are equal when their coordinates are. -/
theorem congr_ix3 {a b c : ℕ} {x x' : Fin a} {y y' : Fin b} {z z' : Fin c} (hx : x = x') (hy : y = y') (hz : z = z') :
    ix3 x y z = ix3 x' y' z' := by rw [hx, hy, hz]

/-- Two indices of four coordinates are equal when their coordinates are. -/
theorem congr_ix4 {a b c d : ℕ} {x x' : Fin a} {y y' : Fin b} {z z' : Fin c} {w w' : Fin d} (hx : x = x') (hy : y = y') (hz : z = z')
    (hw : w = w') : ix4 x y z w = ix4 x' y' z' w' := by rw [hx, hy, hz, hw]

/-- The query tile a point loads, at an index. -/
theorem queries_at (Q : Vec Ideal S4x256x128 .bf16) (t : Fin cfg0.N) (d : Fin 256) (i : Fin 128) :
    queries Q (grid0.coords t) (ix2 d i) = Q (ix3 ⟨t.val % 4, by omega⟩ d i) := by
  unfold queries
  pointwise [k0_pay9]
  refine congrArg Q (congr_ix3 (Fin.ext ?_) (Fin.ext ?_) (Fin.ext ?_))
  · exact congrFun (load_place t) 0
  · exact (congrArg (· + d.val) (congrFun (load_place t) 1)).trans (Nat.zero_add _)
  · exact (congrArg (· + i.val) (congrFun (load_place t) 2)).trans (Nat.zero_add _)

/-- The weight rows are used as they are. -/
theorem weights_at (w : Vec Ideal S8x2048 .f32) (r : Fin 8) (k : Fin 2048) : k0_pay8 (F := Ideal) w (ix2 r k) = w (ix2 r k) := by
  pointwise [k0_pay8]

/-- The score block of a point holds the scores of its rows. -/
theorem score_block (c : Dev nD) (t : Fin cfg0.N) (i : Fin 128) (l : Fin 512) :
    scoresAt m c t (ix2 i l) = (args m c).score (batch t) (row t i) l := by
  have H := holds m c t.val t rfl
  unfold scoresAt
  rw [scores_at _ _ _ (args m c).Ws (fun r a d => (weights_at _ r _).trans (weight_block m c t r a d)) i l, ← Args.score_eq]
  refine Finset.sum_congr rfl fun d _ => ?_
  rw [queries_at, H.queries, H.keys]
  rfl

/-- The softmax of a block, at an index. -/
theorem soft_block (s : FVec Ideal S128x512 .f32) (i : Fin 128) (k : Fin 512) :
    k0_pay66 (F := Ideal) s (ix2 i k) = soft (fun l => s (ix2 i l)) k := by
  pointwise [k0_pay66]
  rw [ofBits_least]
  rfl

/-- The attention block a point leaves, at an index. -/
theorem attn_block (c : Dev nD) (t : Fin cfg0.N) (i : Fin 128) (k : Fin 512) :
    (outsAt0 m c t.val t.isLt).2.1 (ix4 0 0 i k) = (args m c).attn (batch t) (row t i) k := by
  rw [attn_point m c t]
  pointwise [k0_pay67]
  rw [soft_block]
  simp only [score_block]
  rfl

/-- The weighted values, projected and shifted, at an index. -/
theorem mix_block (s : FVec Ideal S128x512 .f32) (v : FVec Ideal S512x256 .f32) (W : FVec Ideal S256x256 .f32) (b : FVec Ideal S1x256 .f32)
    (i : Fin 128) (x : Fin 256) :
    k0_pay1 (F := Ideal) (k0_pay68 (F := Ideal) s v W b) (ix3 0 i x)
      = (∑ y : Fin 256, (∑ l : Fin 512, k0_pay66 (F := Ideal) s (ix2 i l) * v (ix2 l y)) * W (ix2 x y)) + b (ix2 0 x) := by
  pointwise [k0_pay1, k0_pay68]

/-- The output block a point leaves, at an index. -/
theorem out_block (c : Dev nD) (t : Fin cfg0.N) (i : Fin 128) (x : Fin 256) :
    (outsAt0 m c t.val t.isLt).1 (ix3 0 i x) = (args m c).out (batch t) (row t i) x := by
  have H := holds m c t.val t rfl
  rw [out_point m c t]
  refine (mix_block _ _ _ _ i x).trans (congrArg₂ (· + ·) (Finset.sum_congr rfl fun y _ => congrArg₂ (· * ·) ?_ (Wo_block m c t x y)) (bo_block m c t x))
  refine Finset.sum_congr rfl fun l _ => ?_
  rw [soft_block, H.values]
  simp only [score_block]
  rfl

/-- Where the two result windows stand at a grid point. -/
theorem out_places : ∀ t : Fin cfg0.N, win0_11.index t = ![t.val / 4, t.val % 4, 0] ∧ win0_12.index t = ![t.val / 4, 0, t.val % 4, 0] :=
  (by decide +kernel : ∀ t : Fin grid0.N, _)

/-- After the run the second result is the attention. -/
theorem attn_array (c : Dev nD) :
    (dats m 0 c).arrAt 12 cfg0.N = fun y : S4x1x512x512.Idx => (args m c).attn (y 0) (y 2) (y 3) := by
  refine (dats m 0 c).arrAt_eq_of_covers 12 _ (by decide +kernel) fun t hf y => ?_
  blk_simp
  rw [after0_12]
  have hy : (y : S1x1x128x512.Idx) = ix4 (0 : Fin 1) (0 : Fin 1) (y 2) (y 3) := by
    refine (eq_ix4 y).trans ?_
    exact congr_ix4 (Subsingleton.elim (α := Fin 1) _ _) (Subsingleton.elim (α := Fin 1) _ _) rfl rfl
  refine (congrArg (outsAt0 m c t.val t.isLt).2.1 hy).trans ((attn_block m c t (y 2) (y 3)).trans ?_)
  have e : (win0_12.blk t).view.emb y = ix4 (batch t) (0 : Fin 1) (row t (y 2)) (y 3) := by
    blk_ext [out_places t] <;> first | rfl | (have := (y 0).isLt; have := (y 1).isLt; omega)
  exact (congrArg (fun z : S4x1x512x512.Idx => (args m c).attn (z 0) (z 2) (z 3)) e).symm

/-- After the run the first result is the attention's output. -/
theorem out_array (c : Dev nD) :
    (dats m 0 c).arrAt 11 cfg0.N = fun y : S4x512x256.Idx => (args m c).out (y 0) (y 1) (y 2) := by
  refine (dats m 0 c).arrAt_eq_of_covers 11 _ (by decide +kernel) fun t hf y => ?_
  blk_simp
  rw [after0_11]
  have hy : (y : S1x128x256.Idx) = ix3 (0 : Fin 1) (y 1) (y 2) := by
    refine (eq_ix3 y).trans ?_
    exact congr_ix3 (Subsingleton.elim (α := Fin 1) _ _) rfl rfl
  refine (congrArg (outsAt0 m c t.val t.isLt).1 hy).trans ((out_block m c t (y 1) (y 2)).trans ?_)
  have e : (win0_11.blk t).view.emb y = ix3 (batch t) (row t (y 1)) (y 2) := by
    blk_ext [out_places t] <;> rfl
  exact (congrArg (fun z : S4x512x256.Idx => (args m c).out (z 0) (z 1) (z 2)) e).symm

end Cert.KernelIdeal.Rows
end
-- ==== Proof.RefValue.lean ====
module

public import proofs.«01_k».proof.Proof.Spec
public import proofs.«01_k».proof.Proof.Gen.ReferenceIdeal.Run
public import Idealize.ShloMosaic.Lib.Pointwise
public import Idealize.ShloMosaic.Lib.Tactic.CleanTypes

/-! What the reference's two results hold. -/

@[expose] public section
set_option maxRecDepth 16384
noncomputable section
open Idealize.ShloMosaic Idealize.ShloMosaic.TcCoe Idealize.SL.Sem
open Cert.ReferenceIdeal Cert.ReferenceIdeal.Gen Cert.ReferenceIdeal.Value Cert.Rows
namespace Cert.ReferenceIdeal.Rows
variable (m : (ℓ : Loc nD τ sig) → Buf (Elt Ideal) ℓ)

/-- The reference's arguments on one device. -/
def args (c : Dev nD) : Args where
  query b i e := m ((c : Thread nD τ).loc main_arg0) (ix3 b i e)
  key b i e := m ((c : Thread nD τ).loc main_arg1) (ix3 b i e)
  value b i e := m ((c : Thread nD τ).loc main_arg2) (ix3 b i e)
  Wq d e := m ((c : Thread nD τ).loc main_arg3) (ix2 d e)
  bq d := m ((c : Thread nD τ).loc main_arg4) (ix1 d)
  Wk d e := m ((c : Thread nD τ).loc main_arg5) (ix2 d e)
  bk d := m ((c : Thread nD τ).loc main_arg6) (ix1 d)
  Wv d e := m ((c : Thread nD τ).loc main_arg7) (ix2 d e)
  bv d := m ((c : Thread nD τ).loc main_arg8) (ix1 d)
  Ws d := m ((c : Thread nD τ).loc main_arg9) (ix2 0 d)
  bs := m ((c : Thread nD τ).loc main_arg10) (ix1 0)
  Wo d e := m ((c : Thread nD τ).loc main_arg11) (ix2 d e)
  bo d := m ((c : Thread nD τ).loc main_arg12) (ix1 d)

/-- The reference's attention is the softmax of the scores with the score bias added. -/
theorem attn_soft (c : Dev nD) (b : Fin 4) (i k : Fin 512) :
    res_main_v42 m c (ix4 b 0 i k) = soft (fun l => (args m c).score b i l + (args m c).bs) k := by
  unfold res_main_v42
  clean_types
  pointwise
  simp only [ofBits_least, max_eq_right bot_le]
  rfl

/-- With a finite score bias, the reference's attention is the softmax of the scores alone. -/
theorem attn_at (c : Dev nD) (h : ∃ r : ℝ, m ((c : Thread nD τ).loc main_arg10) (ix1 0) = (r : EReal)) (b : Fin 4) (i k : Fin 512) :
    res_main_v42 m c (ix4 b 0 i k) = (args m c).attn b i k := by
  obtain ⟨r, hr⟩ := h
  rw [attn_soft m c b i k, show (args m c).bs = (r : EReal) from hr, soft_add]
  rfl

/-- A projection with its bias, as the reference writes it. -/
def project (x : FVec Ideal S4x512x256 .f32) (W : FVec Ideal S256x256 .f32) (b : FVec Ideal S256 .f32) : FVec Ideal S4x512x256 .f32 :=
  addf (Host.dotGeneral dot_S4x512x256_S256x256_S4x512x256_2_0_01_1_n_n none x
      (transpose S256x256 [1, 0] W transposes_S256x256_S256x256_1_0))
    (broadcastInDim S4x512x256 ![0, 1, 2] bcast_S1x1x256_S4x512x256_0_1_2 (broadcastInDim S1x1x256 ![2] bcast_S256_S1x1x256_2 b))

/-- Values mixed by an attention, as the reference writes it. -/
def mix (P : FVec Ideal S4x1x512x512 .f32) (v : FVec Ideal S4x512x256 .f32) : FVec Ideal S4x512x256 .f32 :=
  shapeCast _ (transpose S4x512x1x256 [0, 3, 1, 2] (Host.dotGeneral (φ₁ := .f32) (φ₂ := .f32) dot_S4x1x512x256_S4x1x512x512_S4x1x256x512_2_3_3_2_01_01 none
    (transpose S4x1x512x256 [0, 2, 1, 3] (shapeCast _ v shapeCasts_S4x512x256_S4x512x1x256) transposes_S4x512x1x256_S4x1x512x256_0_2_1_3) P)
    transposes_S4x1x256x512_S4x512x1x256_0_3_1_2) shapeCasts_S4x512x1x256_S4x512x256

/-- A projection at an index. -/
theorem project_at (x : FVec Ideal S4x512x256 .f32) (W : FVec Ideal S256x256 .f32) (b : FVec Ideal S256 .f32) (n : Fin 4) (i : Fin 512)
    (d : Fin 256) : project x W b (ix3 n i d) = (∑ e : Fin 256, x (ix3 n i e) * W (ix2 d e)) + b (ix1 d) := by
  unfold project
  pointwise

/-- Mixed values at an index. -/
theorem mix_at (P : FVec Ideal S4x1x512x512 .f32) (v : FVec Ideal S4x512x256 .f32) (n : Fin 4) (i : Fin 512) (d : Fin 256) :
    mix P v (ix3 n i d) = ∑ l : Fin 512, P (ix4 n 0 i l) * v (ix3 n l d) := by
  unfold mix
  pointwise
  exact Finset.sum_congr rfl fun l _ => mul_comm _ _

/-- The reference's output is the projection of the values mixed by its attention. -/
theorem out_eq (c : Dev nD) : res_main_v50 m c
    = project (mix (res_main_v42 m c)
        (project (m ((c : Thread nD τ).loc main_arg2)) (m ((c : Thread nD τ).loc main_arg7)) (m ((c : Thread nD τ).loc main_arg8))))
        (m ((c : Thread nD τ).loc main_arg11)) (m ((c : Thread nD τ).loc main_arg12)) := rfl

/-- With a finite score bias, the reference's output is the attention's output. -/
theorem out_at (c : Dev nD) (h : ∃ r : ℝ, m ((c : Thread nD τ).loc main_arg10) (ix1 0) = (r : EReal)) (b : Fin 4) (i : Fin 512)
    (x : Fin 256) : res_main_v50 m c (ix3 b i x) = (args m c).out b i x := by
  rw [out_eq, project_at]
  simp only [mix_at, project_at, attn_at m c h]
  rfl

end Cert.ReferenceIdeal.Rows
end
-- ==== Proof.Agree.lean ====
module

public import proofs.«01_k».proof.Defs
public import proofs.«01_k».proof.Proof.KernelValue
public import proofs.«01_k».proof.Proof.RefValue

/-! The kernel's two results are the reference's. -/

@[expose] public section
set_option maxRecDepth 16384
noncomputable section
open Idealize.ShloMosaic Idealize.ShloMosaic.TcCoe Idealize.SL.Sem
open Cert.Rows
namespace Cert.Agree

/-- The one side condition of the precondition's text. -/
theorem pre_facts : Cert.Pre_score_bias_finite.Facts := ⟨by decide⟩

/-- The precondition says that the score bias is a real number. -/
theorem bias_real [hf : Cert.Pre_score_bias_finite.Facts] (m : (ℓ : Loc Cert.KernelIdeal.nD Cert.KernelIdeal.τ Cert.KernelIdeal.sig) → Buf (Elt Ideal) ℓ)
    (h : Cert.Pre_KernelIdeal_score_bias_finite m) (c : Dev Cert.KernelIdeal.nD) : ∃ r : ℝ, (Cert.KernelIdeal.Rows.args m c).bs = (r : EReal) := by
  have hp := congrFun (h c) (ix1 0)
  unfold Cert.Pre_score_bias_finite.fn at hp
  dsimp only at hp
  change IntOp.andi (Ideal.cmp .ogt (Cert.KernelIdeal.Rows.args m c).bs (Ideal.ofBits .f32 0xFF800000#32))
    (Ideal.cmp .olt (Cert.KernelIdeal.Rows.args m c).bs (Ideal.ofBits .f32 0x7F800000#32)) = 1#1 at hp
  rw [ofBits_least, ofBits_greatest] at hp
  generalize (Cert.KernelIdeal.Rows.args m c).bs = b at hp ⊢
  induction b using EReal.rec with
  | bot => simp [Ideal.cmp] at hp; exact absurd hp (by decide)
  | coe r => exact ⟨r, rfl⟩
  | top => simp [Ideal.cmp] at hp; exact absurd hp (by decide)

/-- From equal arguments and a finite score bias, the kernel and the reference end with equal outputs and equal attentions. -/
theorem algebraic : Cert.algebraic_KernelIdeal_ReferenceIdeal_pre_score_bias_finite (hKernelIdeal := Cert.KernelIdeal.Gen.facts)
    (hReferenceIdeal := Cert.ReferenceIdeal.Gen.facts) (hPre_score_bias_finite := pre_facts) := by
  intro m g m' g' hpre hagree
  have ha : ∀ c : Dev Cert.KernelIdeal.nD, Cert.ReferenceIdeal.Rows.args m' c = Cert.KernelIdeal.Rows.args m c := by
    intro c
    obtain ⟨h0, h1, h2, h3, h4, h5, h6, h7, h8, h9, h10, h11, h12⟩ := hagree c
    unfold Cert.ReferenceIdeal.Rows.args Cert.KernelIdeal.Rows.args
    rw [Args.mk.injEq]
    exact ⟨funext fun b => funext fun i => funext fun e => congrFun h0 (ix3 b i e),
      funext fun b => funext fun i => funext fun e => congrFun h1 (ix3 b i e),
      funext fun b => funext fun i => funext fun e => congrFun h2 (ix3 b i e),
      funext fun d => funext fun e => congrFun h3 (ix2 d e),
      funext fun d => congrFun h4 (ix1 d),
      funext fun d => funext fun e => congrFun h5 (ix2 d e),
      funext fun d => congrFun h6 (ix1 d),
      funext fun d => funext fun e => congrFun h7 (ix2 d e),
      funext fun d => congrFun h8 (ix1 d),
      funext fun d => congrFun h9 (ix2 0 d),
      congrFun h10 (ix1 0),
      funext fun d => funext fun e => congrFun h11 (ix2 d e),
      funext fun d => congrFun h12 (ix1 d)⟩
  have hb : ∀ c : Dev Cert.KernelIdeal.nD, ∃ r : ℝ, (Cert.ReferenceIdeal.Rows.args m' c).bs = (r : EReal) := fun c => by
    rw [ha c]
    exact bias_real (hf := pre_facts) m hpre c
  have eo : ∀ c : Dev Cert.KernelIdeal.nD, (fun y : Cert.KernelIdeal.S4x512x256.Idx => (Cert.KernelIdeal.Rows.args m c).out (y 0) (y 1) (y 2))
      = Cert.ReferenceIdeal.Value.res_main_v50 m' c := fun c => by
    funext y
    refine Eq.trans ?_ (congrArg (Cert.ReferenceIdeal.Value.res_main_v50 m' c) (eq_ix3 y)).symm
    exact ((Cert.ReferenceIdeal.Rows.out_at m' c (hb c) (y 0) (y 1) (y 2)).trans (by rw [ha c])).symm
  have ew : ∀ c : Dev Cert.KernelIdeal.nD, (fun y : Cert.KernelIdeal.S4x1x512x512.Idx => (Cert.KernelIdeal.Rows.args m c).attn (y 0) (y 2) (y 3))
      = Cert.ReferenceIdeal.Value.res_main_v42 m' c := fun c => by
    funext y
    have hy : y = ix4 (y 0) (0 : Fin 1) (y 2) (y 3) :=
      (eq_ix4 y).trans (Cert.KernelIdeal.Rows.congr_ix4 rfl (Subsingleton.elim (α := Fin 1) _ _) rfl rfl)
    refine Eq.trans ?_ (congrArg (Cert.ReferenceIdeal.Value.res_main_v42 m' c) hy).symm
    exact ((Cert.ReferenceIdeal.Rows.attn_at m' c (hb c) (y 0) (y 2) (y 3)).trans (by rw [ha c])).symm
  refine ⟨fun c => Cert.ReferenceIdeal.Value.res_main_v50 m' c, fun c => Cert.ReferenceIdeal.Value.res_main_v42 m' c, ?_,
    Cert.ReferenceIdeal.Value.run m' g'⟩
  exact (θ_run _ _ _).mono (fun r h c => ⟨((h c).1.trans (Cert.KernelIdeal.Rows.out_array m c)).trans (eo c),
    ((h c).2.1.trans (Cert.KernelIdeal.Rows.attn_array m c)).trans (ew c), (h c).2.2⟩) (Cert.KernelIdeal.Value.run_blocks m g)

end Cert.Agree
end
-- ==== Proof.lean ====
/- The proof of the claims about the three programs: `Cert.Proof.claim`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments unchanged and every semaphore counter at zero. -/
theorem reference_frame : Cert.quiescent_ReferenceIdeal (hReferenceIdeal := Cert.ReferenceIdeal.Gen.facts) := by
  intro m g _
  exact (θ_run _ _ _).mono (fun r h => ⟨fun c => (h c).2.2, sem_eq_zero_of_no_sems (sig := Cert.ReferenceIdeal.sig) (by decide) r.2⟩)
    (Cert.ReferenceIdeal.Value.run m g)

/-- Everything the certificate claims. -/
theorem claim : Cert.Claim :=
  ⟨Cert.Kernel.Gen.facts, Cert.KernelIdeal.Gen.facts, Cert.ReferenceIdeal.Gen.facts, Cert.Agree.pre_facts,
    fun m g _ => Cert.Kernel.Gen.frame m g, fun m g _ => Cert.KernelIdeal.Gen.frame m g, fun m g _ => Cert.KernelIdeal.Gen.frame m g,
    reference_frame, fun m g _ => reference_frame m g trivial, trivial, Cert.Agree.algebraic⟩

end Cert.Proof

end
